-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_target [hPre_finite_target : Cert.Pre_finite_target.Facts] (m : (ℓ : Loc Cert.KernelIdeal.nD Cert.KernelIdeal.τ Cert.KernelIdeal.sig) → Buf (Elt Ideal) ℓ) : Prop :=
  ∀ c : Dev Cert.KernelIdeal.nD,
    (Cert.Pre_finite_target.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_target [hPre_finite_target : Cert.Pre_finite_target.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_target.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_target [hKernelIdeal : Cert.KernelIdeal.Facts] [hPre_finite_target : Cert.Pre_finite_target.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_target m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_target [hReferenceIdeal : Cert.ReferenceIdeal.Facts] [hPre_finite_target : Cert.Pre_finite_target.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_target m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_target [hKernelIdeal : Cert.KernelIdeal.Facts] [hReferenceIdeal : Cert.ReferenceIdeal.Facts] [hPre_finite_target : Cert.Pre_finite_target.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_target m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_target : Cert.Pre_finite_target.Facts),
    quiescent_Kernel (hKernel := hKernel)
    ∧ quiescent_KernelIdeal (hKernelIdeal := hKernelIdeal)
    ∧ quiescent_KernelIdeal_pre_finite_target (hKernelIdeal := hKernelIdeal) (hPre_finite_target := hPre_finite_target)
    ∧ quiescent_ReferenceIdeal (hReferenceIdeal := hReferenceIdeal)
    ∧ quiescent_ReferenceIdeal_pre_finite_target (hReferenceIdeal := hReferenceIdeal) (hPre_finite_target := hPre_finite_target)
    ∧ preserves_Kernel_KernelIdeal
    ∧ algebraic_KernelIdeal_ReferenceIdeal_pre_finite_target (hKernelIdeal := hKernelIdeal) (hReferenceIdeal := hReferenceIdeal) (hPre_finite_target := hPre_finite_target)
-- ==== Pre_finite_target.lean ====
abbrev S8x262144x3 : Shape := ⟨3, ![8, 262144, 3]⟩
abbrev S8x262144 : Shape := ⟨2, ![8, 262144]⟩
abbrev S_ : Shape := ⟨0, ![]⟩

class Facts : Prop where
  bcast_S_S8x262144x3 : S_.BroadcastsInDim S8x262144x3 (![] : Fin 0 → Fin S8x262144x3.rank)

variable [Facts]

def fn {F : FTy → Type} [FloatOps F] (main_arg0 : FVec F S8x262144x3 .f32) (main_arg1 : FVec F S8x262144x3 .f32) (main_arg2 : FVec F S8x262144 .f32) (main_arg3 : IVec S8x262144x3 32) (main_arg4 : IVec S_ 32) : IVec S8x262144x3 1 :=
  let main_v0 : FVec F S8x262144x3 .f32 := Host.absf main_arg1
  let main_cst : FVec F S_ .f32 := constant S_ .f32 0x7F800000#32
  let main_v1 : FVec F S8x262144x3 .f32 := broadcastInDim S8x262144x3 ![] bcast_S_S8x262144x3 main_cst
  let main_v2 : IVec S8x262144x3 1 := cmpf .olt main_v0 main_v1
  main_v2
-- ==== Kernel.lean ====
abbrev S8x262144x3 : Shape := ⟨3, ![8, 262144, 3]⟩
abbrev S8x262144 : Shape := ⟨2, ![8, 262144]⟩
abbrev S_ : Shape := ⟨0, ![]⟩
abbrev S3x8x262144 : Shape := ⟨3, ![3, 8, 262144]⟩
abbrev S1x8x262144 : Shape := ⟨3, ![1, 8, 262144]⟩
abbrev S3x8x65536 : Shape := ⟨3, ![3, 8, 65536]⟩
abbrev S1x8x65536 : Shape := ⟨3, ![1, 8, 65536]⟩

abbrev nBuf : Space → Nat
  | .hbm => 10
  | .vmem => 8
  | .smem => 0
  | _ => 0

abbrev bufTy : (tb : Table) → Fin (tcTables nBuf tb) → BufTy
  | .hbm, ⟨0, _⟩ => ⟨S8x262144x3, .f32⟩
  | .hbm, ⟨1, _⟩ => ⟨S8x262144x3, .f32⟩
  | .hbm, ⟨2, _⟩ => ⟨S8x262144, .f32⟩
  | .hbm, ⟨3, _⟩ => ⟨S8x262144x3, .i32⟩
  | .hbm, ⟨4, _⟩ => ⟨S_, .i32⟩
  | .hbm, ⟨5, _⟩ => ⟨S3x8x262144, .f32⟩
  | .hbm, ⟨6, _⟩ => ⟨S3x8x262144, .f32⟩
  | .hbm, ⟨7, _⟩ => ⟨S1x8x262144, .f32⟩
  | .hbm, ⟨8, _⟩ => ⟨S3x8x262144, .f32⟩
  | .hbm, ⟨9, _⟩ => ⟨S8x262144x3, .f32⟩
  | .local _ .vmem, ⟨0, _⟩ => ⟨S3x8x65536, .f32⟩
  | .local _ .vmem, ⟨1, _⟩ => ⟨S3x8x65536, .f32⟩
  | .local _ .vmem, ⟨2, _⟩ => ⟨S3x8x65536, .f32⟩
  | .local _ .vmem, ⟨3, _⟩ => ⟨S3x8x65536, .f32⟩
  | .local _ .vmem, ⟨4, _⟩ => ⟨S1x8x65536, .f32⟩
  | .local _ .vmem, ⟨5, _⟩ => ⟨S1x8x65536, .f32⟩
  | .local _ .vmem, ⟨6, _⟩ => ⟨S3x8x65536, .f32⟩
  | .local _ .vmem, ⟨7, _⟩ => ⟨S3x8x65536, .f32⟩
  | _, _ => ⟨S8x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3x8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x262144x3 : Shape := ⟨3, ![8, 262144, 3]⟩
abbrev S8x262144 : Shape := ⟨2, ![8, 262144]⟩
abbrev S_ : Shape := ⟨0, ![]⟩
abbrev S8x262144x1 : Shape := ⟨3, ![8, 262144, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x262144x3, .f32⟩
  | .hbm, ⟨1, _⟩ => ⟨S8x262144x3, .f32⟩
  | .hbm, ⟨2, _⟩ => ⟨S8x262144, .f32⟩
  | .hbm, ⟨3, _⟩ => ⟨S8x262144x3, .i32⟩
  | .hbm, ⟨4, _⟩ => ⟨S_, .i32⟩
  | .hbm, ⟨5, _⟩ => ⟨S8x262144x3, .f32⟩
  | .hbm, ⟨6, _⟩ => ⟨S8x262144x3, .f32⟩
  | .hbm, ⟨7, _⟩ => ⟨S_, .f32⟩
  | .hbm, ⟨8, _⟩ => ⟨S8x262144x3, .f32⟩
  | .hbm, ⟨9, _⟩ => ⟨S8x262144x3, .f32⟩
  | .hbm, ⟨10, _⟩ => ⟨S_, .f32⟩
  | .hbm, ⟨11, _⟩ => ⟨S8x262144x3, .f32⟩
  | .hbm, ⟨12, _⟩ => ⟨S8x262144x3, .f32⟩
  | .hbm, ⟨13, _⟩ => ⟨S_, .f32⟩
  | .hbm, ⟨14, _⟩ => ⟨S8x262144x3, .f32⟩
  | .hbm, ⟨15, _⟩ => ⟨S8x262144x3, .f32⟩
  | .hbm, ⟨16, _⟩ => ⟨S_, .f32⟩
  | .hbm, ⟨17, _⟩ => ⟨S8x262144x3, .f32⟩
  | .hbm, ⟨18, _⟩ => ⟨S8x262144x3, .f32⟩
  | .hbm, ⟨19, _⟩ => ⟨S_, .f32⟩
  | .hbm, ⟨20, _⟩ => ⟨S8x262144x3, .f32⟩
  | .hbm, ⟨21, _⟩ => ⟨S8x262144x3, .f32⟩
  | .hbm, ⟨22, _⟩ => ⟨S8x262144x3, .f32⟩
  | .hbm, ⟨23, _⟩ => ⟨S_, .f32⟩
  | .hbm, ⟨24, _⟩ => ⟨S8x262144x3, .f32⟩
  | .hbm, ⟨25, _⟩ => ⟨S8x262144x3, .f32⟩
  | .hbm, ⟨26, _⟩ => ⟨S8x262144x3, .f32⟩
  | .hbm, ⟨27, _⟩ => ⟨S_, .f32⟩
  | .hbm, ⟨28, _⟩ => ⟨S8x262144x3, .f32⟩
  | .hbm, ⟨29, _⟩ => ⟨S8x262144x3, .f32⟩
  | .hbm, ⟨30, _⟩ => ⟨S8x262144x3, .f32⟩
  | .hbm, ⟨31, _⟩ => ⟨S8x262144x3, .f32⟩
  | .hbm, ⟨32, _⟩ => ⟨S_, .f32⟩
  | .hbm, ⟨33, _⟩ => ⟨S8x262144x3, .f32⟩
  | .hbm, ⟨34, _⟩ => ⟨S8x262144x3, .f32⟩
  | .hbm, ⟨35, _⟩ => ⟨S8x262144x3, .f32⟩
  | .hbm, ⟨36, _⟩ => ⟨S_, .f32⟩
  | .hbm, ⟨37, _⟩ => ⟨S8x262144x3, .f32⟩
  | .hbm, ⟨38, _⟩ => ⟨S8x262144x3, .f32⟩
  | .hbm, ⟨39, _⟩ => ⟨S8x262144x3, .f32⟩
  | .hbm, ⟨40, _⟩ => ⟨S8x262144x3, .f32⟩
  | .hbm, ⟨41, _⟩ => ⟨S8x262144x3, .f32⟩
  | .hbm, ⟨42, _⟩ => ⟨S8x262144x3, .f32⟩
  | .hbm, ⟨43, _⟩ => ⟨S8x262144x3, .f32⟩
  | .hbm, ⟨44, _⟩ => ⟨S8x262144x3, .f32⟩
  | .hbm, ⟨45, _⟩ => ⟨S8x262144x3, .f32⟩
  | .hbm, ⟨46, _⟩ => ⟨S8x262144x3, .f32⟩
  | .hbm, ⟨47, _⟩ => ⟨S8x262144x1, .f32⟩
  | .hbm, ⟨48, _⟩ => ⟨S8x262144x3, .f32⟩
  | .hbm, ⟨49, _⟩ => ⟨S8x262144x3, .f32⟩
  | _, _ => ⟨S8x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Scalar.lean ====
/-
  The mathematics of one element of the focal loss, over the extended reals: what the kernel computes from a
  logit `x`, a target `t` and a weight `w` (`kern`), what the plain formula computes (`plain`), and that the two
  agree whenever the target is a real number (`kern_eq_plain`). The logit and the weight may be infinite.
-/
module

public import Idealize.ShloMosaic.PureOps.Ideal
public import Idealize.ShloMosaic.PureOps.Ideal.Laws
public import Mathlib.Analysis.SpecialFunctions.Log.Basic
public import Mathlib.Analysis.SpecialFunctions.Pow.Real

@[expose] public section

noncomputable section

namespace Cert.Focal

open Idealize.ShloMosaic

/-! ## The two formulas -/

/-- The kernel's sigmoid, by the hyperbolic tangent of half the logit. -/
def sigT (x : EReal) : EReal := ((1 / 2 : ℝ) : EReal) + ((1 / 2 : ℝ) : EReal) * Ideal.tanh (x * ((1 / 2 : ℝ) : EReal))

/-- The kernel's cross entropy: minus the logarithm of the complementary sigmoid, less `x t`. -/
def bceT (x t : EReal) : EReal :=
  Ideal.log (sigT x - Ideal.tanh (x * ((1 / 2 : ℝ) : EReal))) * ((-1 : ℝ) : EReal) - x * t

/-- The kernel's probability of the wrong class. -/
def ptT (x t : EReal) : EReal := (sigT x - t * sigT x) + (t - t * sigT x)

/-- What the kernel computes of one element. -/
def kern (x t w : EReal) : EReal :=
  ((((3 / 4 : ℝ) : EReal) - ((1 / 2 : ℝ) : EReal) * t) * (ptT x t * ptT x t)) * (bceT x t * w)

/-- The plain probability of the wrong class, by the logistic function. -/
def ptP (x t : EReal) : EReal := t * (1 - Ideal.logistic x) + (1 - t) * Ideal.logistic x

/-- The plain cross entropy of the logit, in its stable form. -/
def bceP (x t : EReal) : EReal := (max x 0 - x * t) + Ideal.log1p (Ideal.exp (-(max x (-x))))

/-- What the plain formula computes of one element. -/
def plain (x t w : EReal) : EReal :=
  (((t * ((1 / 4 : ℝ) : EReal) + (1 - t) * ((3 / 4 : ℝ) : EReal)) * Ideal.pow (ptP x t) ((2 : ℝ) : EReal)) * bceP x t) * w

/-! ## The float words of the constants -/

theorem word_half : Ideal.ofBits .f32 0x3F000000#32 = ((1 / 2 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_three_quarters : Ideal.ofBits .f32 0x3F400000#32 = ((3 / 4 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_one : Ideal.ofBits .f32 0x3F800000#32 = (1 : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_inf : Ideal.ofBits .f32 0x7F800000#32 = (⊤ : EReal) := by
  simp [Ideal.ofBits, Ideal.ieee]

/-! ## Over the reals -/

/-- `tanh (a/2)` as a quotient in `e⁻ᵃ`. -/
theorem tanh_half (a : ℝ) : Real.tanh (a * (1 / 2)) = (1 - Real.exp (-a)) / (1 + Real.exp (-a)) := by
  have hp : 0 < Real.exp (a * (1 / 2)) := Real.exp_pos _
  have hn : 0 < Real.exp (-(a * (1 / 2))) := Real.exp_pos _
  have h1 : Real.exp (a * (1 / 2)) * Real.exp (-(a * (1 / 2))) = 1 := by rw [← Real.exp_add]; simp
  have h2 : Real.exp (-a) = Real.exp (-(a * (1 / 2))) * Real.exp (-(a * (1 / 2))) := by
    rw [← Real.exp_add]; congr 1; ring
  rw [Real.tanh_eq_sinh_div_cosh, Real.sinh_eq, Real.cosh_eq, h2,
    div_eq_div_iff (by positivity) (by positivity)]
  linear_combination (Real.exp (-(a * (1 / 2)))) * h1

/-- The kernel's sigmoid is the logistic function, on the reals. -/
theorem sig_real (a : ℝ) : 1 / 2 + 1 / 2 * Real.tanh (a * (1 / 2)) = (1 + Real.exp (-a))⁻¹ := by
  have h : 0 < Real.exp (-a) := Real.exp_pos _
  rw [tanh_half]; field_simp; ring

/-- Its complement, as the kernel forms it. -/
theorem comp_real (a : ℝ) :
    1 / 2 + 1 / 2 * Real.tanh (a * (1 / 2)) - Real.tanh (a * (1 / 2)) = Real.exp (-a) / (1 + Real.exp (-a)) := by
  have h : 0 < Real.exp (-a) := Real.exp_pos _
  rw [tanh_half]; field_simp; ring

/-- Minus the logarithm of the complement is the stable form of `log (1 + eᵃ)`. -/
theorem softplus_real (a : ℝ) :
    Real.log (Real.exp (-a) / (1 + Real.exp (-a))) * -1 = max a 0 + Real.log (1 + Real.exp (-(max a (-a)))) := by
  have h : 0 < Real.exp (-a) := Real.exp_pos _
  rw [Real.log_div h.ne' (by positivity), Real.log_exp]
  rcases le_total 0 a with ha | ha
  · rw [max_eq_left ha, max_eq_left (by linarith)]; ring
  · rw [max_eq_right ha, max_eq_right (by linarith), neg_neg]
    have e : 1 + Real.exp a = (1 + Real.exp (-a)) * Real.exp a := by
      rw [add_mul, ← Real.exp_add]; simp [add_comm]
    rw [e, Real.log_mul (by positivity) (Real.exp_pos a).ne', Real.log_exp]; ring

/-! ## Over the extended reals -/

/-- The kernel's sigmoid is the logistic function at every logit, the infinite ones included. -/
theorem sigT_eq (x : EReal) : sigT x = Ideal.logistic x := by
  induction x with
  | bot =>
    rw [sigT, Ideal.logistic_bot, EReal.bot_mul_coe_of_pos (by norm_num), Ideal.tanh_bot,
      show (-1 : EReal) = ((-1 : ℝ) : EReal) from rfl]
    norm_cast; norm_num
  | top =>
    rw [sigT, Ideal.logistic_top, EReal.top_mul_coe_of_pos (by norm_num), Ideal.tanh_top]
    norm_cast; norm_num
  | coe a =>
    rw [sigT, Ideal.logistic_coe, ← sig_real a, ← EReal.coe_mul, Ideal.tanh_coe]
    norm_cast

/-- The logistic function is a real number at every logit. -/
theorem logistic_real (x : EReal) : ∃ s : ℝ, Ideal.logistic x = (s : EReal) := by
  induction x with
  | bot => exact ⟨0, by rw [Ideal.logistic_bot]; rfl⟩
  | top => exact ⟨1, by rw [Ideal.logistic_top]; rfl⟩
  | coe a => exact ⟨_, Ideal.logistic_coe a⟩

/-- The two cross entropies agree at every logit and every target. -/
theorem bceT_eq (x t : EReal) : bceT x t = bceP x t := by
  unfold bceT bceP
  induction x with
  | bot =>
    have h : sigT ⊥ - Ideal.tanh (⊥ * ((1 / 2 : ℝ) : EReal)) = ((1 : ℝ) : EReal) := by
      rw [sigT_eq, Ideal.logistic_bot, EReal.bot_mul_coe_of_pos (by norm_num), Ideal.tanh_bot, zero_sub, neg_neg]
      rfl
    have hm : max (⊥ : EReal) (-⊥) = ⊤ := by simp
    rw [h, hm, EReal.neg_top, Ideal.exp_bot, Ideal.log1p, add_zero, max_eq_right bot_le,
      show (1 : EReal) = ((1 : ℝ) : EReal) from rfl, Ideal.log_coe, if_neg (by norm_num), Real.log_one]
    simp
  | top =>
    have h : sigT ⊤ - Ideal.tanh (⊤ * ((1 / 2 : ℝ) : EReal)) = ((0 : ℝ) : EReal) := by
      rw [sigT_eq, Ideal.logistic_top, EReal.top_mul_coe_of_pos (by norm_num), Ideal.tanh_top,
        show (1 : EReal) = ((1 : ℝ) : EReal) from rfl, ← EReal.coe_sub, sub_self]
    have hm : max (⊤ : EReal) (-⊤) = ⊤ := by simp
    rw [h, hm, EReal.neg_top, Ideal.exp_bot, Ideal.log1p, add_zero, max_eq_left le_top,
      show (1 : EReal) = ((1 : ℝ) : EReal) from rfl, Ideal.log_coe, Ideal.log_coe, if_pos le_rfl,
      if_neg (by norm_num), Real.log_one, EReal.bot_mul_coe_of_neg (by norm_num)]
    simp
  | coe a =>
    have hq : 0 < Real.exp (-a) / (1 + Real.exp (-a)) := by
      have := Real.exp_pos (-a); positivity
    have hl : (0 : ℝ) < 1 + Real.exp (-(max a (-a))) := by
      have := Real.exp_pos (-(max a (-a))); positivity
    have h : sigT (a : EReal) - Ideal.tanh ((a : EReal) * ((1 / 2 : ℝ) : EReal))
        = ((Real.exp (-a) / (1 + Real.exp (-a)) : ℝ) : EReal) := by
      rw [← comp_real, sigT, ← EReal.coe_mul, Ideal.tanh_coe]; norm_cast
    have hm : max (a : EReal) (-(a : EReal)) = ((max a (-a) : ℝ) : EReal) := by
      rw [← EReal.coe_neg]; exact (EReal.coe_strictMono.monotone.map_max).symm
    have h0 : max (a : EReal) 0 = ((max a 0 : ℝ) : EReal) := (EReal.coe_strictMono.monotone.map_max (a := a) (b := 0)).symm
    have e1 : (1 : EReal) + ((Real.exp (-(max a (-a))) : ℝ) : EReal) = ((1 + Real.exp (-(max a (-a))) : ℝ) : EReal) := by
      norm_cast
    rw [h, hm, h0, ← EReal.coe_neg, Ideal.exp_coe, Ideal.log1p, e1, Ideal.log_coe, Ideal.log_coe, if_neg hq.not_ge,
      if_neg hl.not_ge, ← EReal.coe_mul, softplus_real, EReal.coe_add, sub_eq_add_neg, sub_eq_add_neg, add_right_comm]

/-- The two probabilities agree, and are real, at a real target. -/
theorem pt_eq (x : EReal) (b : ℝ) : ∃ p : ℝ, ptT x b = (p : EReal) ∧ ptP x b = (p : EReal) := by
  obtain ⟨s, hs⟩ := logistic_real x
  refine ⟨(s - b * s) + (b - b * s), ?_, ?_⟩
  · rw [ptT, sigT_eq, hs]; norm_cast
  · rw [ptP, hs]; norm_cast; ring_nf

/-- ONE ELEMENT: at a real target the kernel's value is the plain formula's, whatever the logit and the weight. -/
theorem kern_eq_plain (x w : EReal) (b : ℝ) : kern x b w = plain x b w := by
  obtain ⟨p, hT, hP⟩ := pt_eq x b
  have ha : ((3 / 4 : ℝ) : EReal) - ((1 / 2 : ℝ) : EReal) * (b : EReal)
      = (b : EReal) * ((1 / 4 : ℝ) : EReal) + (1 - (b : EReal)) * ((3 / 4 : ℝ) : EReal) := by
    norm_cast; ring_nf
  have hp : Ideal.pow (p : EReal) ((2 : ℝ) : EReal) = (p : EReal) * (p : EReal) := by
    show ((Real.rpow p 2 : ℝ) : EReal) = _
    rw [← EReal.coe_mul]; congr 1
    show p ^ (2 : ℝ) = _
    rw [Real.rpow_two, sq]
  rw [kern, plain, hT, hP, hp, ha, bceT_eq]
  simp only [mul_assoc]

end Cert.Focal

end
-- ==== Proof.Block.lean ====
/-
  What one block of the kernel computes: element by element, the kernel's formula `Focal.kern` of the logit, the
  target and the weight, the weight's block having one row for the three classes.
-/
module

public import proofs.«01_k».proof.Proof.Scalar
public import proofs.«01_k».proof.Proof.Gen.KernelIdeal.Skeleton
public import Idealize.ShloMosaic.Lib.Pipeline.Value
public import Idealize.ShloMosaic.Lib.ValueIdx

@[expose] public section

noncomputable section

namespace Cert.KernelIdeal.Block

open Cert.KernelIdeal Cert.KernelIdeal.Gen Idealize.ShloMosaic Idealize.ShloMosaic.ValueIdx

/-- The element of the weights' block that element `i` of the result's block reads: the class is dropped. -/
abbrev wIdx (i : S3x8x65536.Idx) : S1x8x65536.Idx := ix3 (0 : Fin 1) (i 1) (i 2)

/-- The weights' block repeated over the classes, read at an element. -/
theorem repeat_apply (z : FVec Ideal S1x8x65536 .f32) (i : S3x8x65536.Idx) :
    broadcastTo S3x8x65536 z broadcasts_S1x8x65536_S3x8x65536 i = z (wIdx i) := by
  refine broadcastTo_apply z _ i (wIdx i) fun a => ?_
  fin_cases a <;> rfl

/-- One element of the block the body stores is the kernel's formula of the three blocks' elements. -/
theorem pay_apply (x y : FVec Ideal S3x8x65536 .f32) (z : FVec Ideal S1x8x65536 .f32) (i : S3x8x65536.Idx) :
    k0_pay1 (F := Ideal) x y z i = Focal.kern (x i) (y i) (z (wIdx i)) := by
  unfold k0_pay1
  simp only [shapeCast_self, mulf_apply, addf_apply, subf_apply, repeat_apply]
  show _ = ((((3 / 4 : ℝ) : EReal) - _) * _) * _
  rw [Focal.ptT, Focal.bceT, Focal.sigT, ← Focal.word_half, ← Focal.word_neg_one, ← Focal.word_three_quarters]
  rfl

end Cert.KernelIdeal.Block

end
-- ==== Proof.Array.lean ====
/-
  What the kernel's arrays hold. The grid's four points each write one block of the class-first result, and the
  blocks tile it; so that array is the kernel's formula at every element of the class-first arguments. The result
  is its transpose, the classes last again.
-/
module

public import proofs.«01_k».proof.Proof.Block
public import proofs.«01_k».proof.Proof.Gen.KernelIdeal.Frame

@[expose] public section

noncomputable section

namespace Cert.KernelIdeal.Whole

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The class-first arrays the grid reads -/

/-- The logits, classes first, as the grid finds them. -/
theorem logits_apply (c : Dev nD) (k : Fin 3) (b : Fin 8) (a : Fin 262144) :
    V m c main_v0 (ix3 k b a) = m ((c : Thread nD τ).loc main_arg0) (ix3 b a k) := by
  have h : V m c main_v0 = transpose S3x8x262144 [2, 0, 1] (m ((c : Thread nD τ).loc main_arg0))
      transposes_S8x262144x3_S3x8x262144_2_0_1 := by
    show StableHlo.after (List.flatten [hostOps0]) _ (Proc.devRef .tc main_v0) = _
    rw [show List.flatten [(hostOps0 : List (HloOp τ sig (Elt Ideal)))] = hostOps0 from rfl]
    after_results_simp
  rw [h]
  exact transpose_apply _ _ _ _ _ fun d => by fin_cases d <;> rfl

/-- The targets, classes first, as the grid finds them. -/
theorem targets_apply (c : Dev nD) (k : Fin 3) (b : Fin 8) (a : Fin 262144) :
    V m c main_v1 (ix3 k b a) = m ((c : Thread nD τ).loc main_arg1) (ix3 b a k) := by
  have h : V m c main_v1 = transpose S3x8x262144 [2, 0, 1] (m ((c : Thread nD τ).loc main_arg1))
      transposes_S8x262144x3_S3x8x262144_2_0_1 := by
    show StableHlo.after (List.flatten [hostOps0]) _ (Proc.devRef .tc main_v1) = _
    rw [show List.flatten [(hostOps0 : List (HloOp τ sig (Elt Ideal)))] = hostOps0 from rfl]
    after_results_simp
  rw [h]
  exact transpose_apply _ _ _ _ _ fun d => by fin_cases d <;> rfl

/-- The weights, as one row of classes. -/
theorem weights_apply (c : Dev nD) (b : Fin 8) (a : Fin 262144) :
    V m c main_v2 (ix3 (0 : Fin 1) b a) = m ((c : Thread nD τ).loc main_arg2) (ix2 b a) := by
  have h : V m c main_v2 = broadcastInDim S1x8x262144 ![1, 2] bcast_S8x262144_S1x8x262144_1_2
      (m ((c : Thread nD τ).loc main_arg2)) := by
    show StableHlo.after (List.flatten [hostOps0]) _ (Proc.devRef .tc main_v2) = _
    rw [show List.flatten [(hostOps0 : List (HloOp τ sig (Elt Ideal)))] = hostOps0 from rfl]
    after_results_simp
  rw [h]
  exact broadcastInDim_apply _ _ _ _ _ fun d => by fin_cases d <;> rfl

/-! ## The class-first result -/

/-- The kernel's formula at every element of the class-first arrays. -/
def first (c : Dev nD) : Buf (Elt Ideal) ((c : Thread nD τ).loc main_v3) := fun i : S3x8x262144.Idx =>
  Focal.kern (V m c main_v0 i) (V m c main_v1 i) (V m c main_v2 (ix3 (0 : Fin 1) (i 1) (i 2)))

theorem zeros : (![0, 0, 0] : Fin 3 → Nat) = fun _ => 0 := funext fun a => by fin_cases a <;> rfl

/-- The weights' block sits under the result's: the element a block's element reads is the one its place in the
    array reads. -/
theorem weight_place (t : Fin cfg0.N) (i : S3x8x65536.Idx) :
    (win0_2.rect t).emb (wIdx i) = ix3 (0 : Fin 1) ((win0_3.rect t).emb i 1) ((win0_3.rect t).emb i 2) := by
  funext a
  apply Fin.ext
  fin_cases a
  · exact Pipeline.Window.rect_emb_val_of_index_zero win0_2 t 0 rfl (wIdx i)
  · exact (Pipeline.Window.rect_emb_val win0_2 t (wIdx i) 1).trans (Pipeline.Window.rect_emb_val win0_3 t i 1).symm
  · exact (Pipeline.Window.rect_emb_val win0_2 t (wIdx i) 2).trans (Pipeline.Window.rect_emb_val win0_3 t i 2).symm

/-- What a point writes back is its block of `first`. -/
theorem flushed_eq (c : Dev nD) (t : Fin cfg0.N) :
    (dats m 0 c).flushed 3 t = (win0_3.blk t).view.read (Elt Ideal) (first m c) := by
  show (cfg0.win 3).cut (grid0.coords t) ((dats m 0 c).after 3 t) = _
  rw [after0_3]
  unfold out0_3
  rw [View.canon_unit_zero zeros, View.ld_unit_zero zeros, View.ld_unit_zero zeros, View.ld_unit_zero zeros]
  funext i
  refine (pay_apply _ _ _ i).trans ?_
  show Focal.kern _ _ (V m c main_v2 ((win0_2.rect t).emb (wIdx i))) = first m c ((win0_3.rect t).emb i)
  rw [weight_place]
  rfl

/-- The block of point `t`: positions `65536 t` to `65536 t + 65535`, every class and row. -/
theorem mem_blk (t : Fin cfg0.N) (i : S3x8x262144.Idx) :
    i ∈ ((cfg0.win 3).blk t).view.set ↔ t.val * 65536 ≤ (i 2 : Nat) ∧ (i 2 : Nat) < t.val * 65536 + 65536 := by
  show i ∈ ((View.whole main_v3).slice (win0_3.rect t)).set ↔ _
  rw [View.set_slice_whole, Rect.mem_set_unit]
  have h0 : (i 0 : Nat) < 3 := (i 0).isLt
  have h1 : (i 1 : Nat) < 8 := (i 1).isLt
  have e : (win0_3.index t 0 * win0_3.size 0 = 0 ∧ win0_3.xsize (grid0.coords t) 0 = 3)
      ∧ (win0_3.index t 1 * win0_3.size 1 = 0 ∧ win0_3.xsize (grid0.coords t) 1 = 8)
      ∧ win0_3.index t 2 * win0_3.size 2 = t.val * 65536 ∧ win0_3.xsize (grid0.coords t) 2 = 65536 := by
    rcases fin_N0 t with rfl | rfl | rfl | rfl <;> decide +kernel
  obtain ⟨⟨a0, b0⟩, ⟨a1, b1⟩, a2, b2⟩ := e
  constructor
  · intro h
    have h2 : win0_3.index t 2 * win0_3.size 2 ≤ (i 2 : Nat)
        ∧ (i 2 : Nat) < win0_3.index t 2 * win0_3.size 2 + win0_3.xsize (grid0.coords t) 2 := h 2
    rwa [a2, b2] at h2
  · intro h a
    show win0_3.index t a * win0_3.size a ≤ (i a : Nat)
        ∧ (i a : Nat) < win0_3.index t a * win0_3.size a + win0_3.xsize (grid0.coords t) a
    fin_cases a
    · refine ⟨(le_of_eq a0).trans (Nat.zero_le _), lt_of_lt_of_eq h0 ?_⟩
      exact (by rw [a0, b0] : (3 : Nat) = win0_3.index t 0 * win0_3.size 0 + win0_3.xsize (grid0.coords t) 0)
    · refine ⟨(le_of_eq a1).trans (Nat.zero_le _), lt_of_lt_of_eq h1 ?_⟩
      exact (by rw [a1, b1] : (8 : Nat) = win0_3.index t 1 * win0_3.size 1 + win0_3.xsize (grid0.coords t) 1)
    · refine ⟨(le_of_eq a2).trans h.1, lt_of_lt_of_eq h.2 ?_⟩
      exact (by rw [a2, b2] :
        t.val * 65536 + 65536 = win0_3.index t 2 * win0_3.size 2 + win0_3.xsize (grid0.coords t) 2)

/-- The four blocks tile the array. -/
theorem cover (i : S3x8x262144.Idx) :
    ∃ t : Fin cfg0.N, (cfg0.win 3).flush t = true ∧ i ∈ ((cfg0.win 3).blk t).view.set := by
  have h2 : (i 2 : Nat) < 262144 := (i 2).isLt
  have hN : cfg0.N = 4 := N_0
  refine ⟨⟨(i 2 : Nat) / 65536, by omega⟩, flush0_3 _, ?_⟩
  rw [mem_blk]
  dsimp only
  omega

/-- So the class-first result ends at `first`. -/
theorem first_eq (c : Dev nD) : (dats m 0 c).arrAt 3 cfg0.N = first m c :=
  (dats m 0 c).arrAt_eq_of_cover 3 (first m c) (fun t _ => flushed_eq m c t) cover

/-! ## The result -/

/-- The kernel's formula at every element of the arguments: what the result is shown to hold. -/
def out (c : Dev nD) : Buf (Elt Ideal) ((c : Thread nD τ).loc main_v4) := fun i : S8x262144x3.Idx =>
  Focal.kern (m ((c : Thread nD τ).loc main_arg0) i) (m ((c : Thread nD τ).loc main_arg1) i)
    (m ((c : Thread nD τ).loc main_arg2) (ix2 (i 0) (i 1)))

/-- The class-first result, transposed back, is the formula at every element. -/
theorem back_eq (c : Dev nD) :
    transpose S8x262144x3 [1, 2, 0] (first m c) transposes_S3x8x262144_S8x262144x3_1_2_0 = out m c := by
  funext i
  refine (transpose_apply _ _ _ i (ix3 (i 2) (i 0) (i 1)) fun d => by fin_cases d <;> rfl).trans ?_
  have e : (ix3 (i 0) (i 1) (i 2) : S8x262144x3.Idx) = i := by funext d; fin_cases d <;> rfl
  have hx := (logits_apply m c (i 2) (i 0) (i 1)).trans (congrArg (m ((c : Thread nD τ).loc main_arg0)) e)
  have ht := (targets_apply m c (i 2) (i 0) (i 1)).trans (congrArg (m ((c : Thread nD τ).loc main_arg1)) e)
  exact congr (congrArg₂ Focal.kern hx ht) (weights_apply m c (i 0) (i 1))

/-- The result buffer, as the last transpose leaves it. -/
theorem result_eq (c : Dev nD) :
    Pipeline.afterTail₀ cfgs (dats m) 0 (V0 m) [hostOps1] c main_v4 = out m c := by
  have h : Pipeline.afterTail₀ cfgs (dats m) 0 (V0 m) [hostOps1] c main_v4
      = transpose S8x262144x3 [1, 2, 0] ((dats m 0 c).arrAt 3 cfg0.N) transposes_S3x8x262144_S8x262144x3_1_2_0 := by
    unfold Pipeline.afterTail₀
    show StableHlo.after (List.flatten [hostOps1]) _ (Proc.devRef .tc main_v4) = _
    rw [show List.flatten [(hostOps1 : List (HloOp τ sig (Elt Ideal)))] = hostOps1 from rfl]
    after_results_simp
    exact congrArg (transpose S8x262144x3 [1, 2, 0] · transposes_S3x8x262144_S8x262144x3_1_2_0)
      (Pipeline.withArrays_arr spec0 (by decide) c (V0 m c) (fun w => (dats m 0 c).arrAt w cfg0.N) 3)
  rw [h, first_eq, back_eq]

/-- Every run of the kernel ends with the result at `out` and the arguments unchanged. -/
theorem run : θ_run defs (onTc (τ := τ) (main (F := Ideal))) ⟨m, fun _ => 0, ρ⟩ fun r => ∀ c : Dev nD,
      r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).trans (result_eq m c), h.2 c⟩)
    (θ_run_and
      ((θ_run defs _ _).mono
        (fun _ h c => (h c).2 main_v4 (Pipeline.mem_restRefs_of main_v4 (by decide) (by decide))) (run_main m ρ))
      (unchanged m ρ))

end Cert.KernelIdeal.Whole

end
-- ==== Proof.Reference.lean ====
/-
  What the reference computes: element by element, the plain formula `Focal.plain` of the logit, the target and the
  weight of the element's position; and its frame.
-/
module

public import proofs.«01_k».proof.Proof.Scalar
public import proofs.«01_k».proof.Proof.Gen.ReferenceIdeal.Run
public import Idealize.ShloMosaic.Lib.Pipeline.Value
public import Idealize.ShloMosaic.Lib.IdealHost
public import Idealize.ShloMosaic.Lib.ValueIdx
public import Idealize.ShloMosaic.Lib.Quiescent

@[expose] public section

noncomputable section

namespace Cert.ReferenceIdeal.Plain

open Cert.ReferenceIdeal Cert.ReferenceIdeal.Gen Idealize.ShloMosaic Idealize.ShloMosaic.TcCoe Idealize.SL.Sem
open Idealize.ShloMosaic.ValueIdx

/-- The weight that element `i` reads: that of its row and position, whatever the class. -/
abbrev wIdx (i : S8x262144x3.Idx) : S8x262144.Idx := ix2 (i 0) (i 1)

/-- The weights spread over the classes, read at an element. -/
theorem spread_apply (w : FVec Ideal S8x262144 .f32) (i : S8x262144x3.Idx) :
    broadcastInDim S8x262144x3 ![0, 1, 2] bcast_S8x262144x1_S8x262144x3_0_1_2
      (broadcastInDim S8x262144x1 ![0, 1] bcast_S8x262144_S8x262144x1_0_1 w) i = w (wIdx i) := by
  refine (broadcastInDim_apply _ _ _ i (ix3 (i 0) (i 1) (0 : Fin 1)) fun a => by fin_cases a <;> rfl).trans ?_
  exact broadcastInDim_apply _ _ w _ (wIdx i) fun a => by fin_cases a <;> rfl

/-- The logistic function with its ones as the program writes them. -/
theorem logistic_words (x : EReal) : Ideal.logistic x
    = Ideal.div (Ideal.ofBits .f32 0x3F800000#32) (Ideal.ofBits .f32 0x3F800000#32 + Ideal.exp (-x)) := by
  rw [Focal.word_one]; rfl

variable (m : (ℓ : Loc nD τ sig) → Buf (Elt Ideal) ℓ) (ρ : Dev nD → PrngReg)

/-- The array the reference returns: the plain formula at every element. -/
def out (c : Dev nD) : Buf (Elt Ideal) ((c : Thread nD τ).loc main_v35) := fun i : S8x262144x3.Idx =>
  Focal.plain (m ((c : Thread nD τ).loc main_arg0) i) (m ((c : Thread nD τ).loc main_arg1) i)
    (m ((c : Thread nD τ).loc main_arg2) (wIdx i))

/-- Every run of the reference ends with the result at `out` and the arguments unchanged. -/
theorem run : θ_run defs (onTc (τ := τ) (main (F := Ideal))) ⟨m, fun _ => 0, ρ⟩ fun r => ∀ c : Dev nD,
      r.2.mem ((c.tc : Thread nD τ).loc main_v35) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun i => ?_), (h c).2⟩) (Value.run m ρ)
  rw [mulf_apply, spread_apply]
  unfold out Focal.plain Focal.ptP Focal.bceP
  rw [logistic_words, ← Focal.word_quarter, ← Focal.word_three_quarters, ← Focal.word_two, ← Focal.word_one, ← Ideal.ofBits_zero_f32]
  rfl

/-- The reference terminates, leaves its arguments unchanged and every counter at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, Idealize.ShloMosaic.sem_eq_zero_of_no_sems (by decide) r.2⟩)
    (run m ρ)

end Cert.ReferenceIdeal.Plain

end
-- ==== Proof.Equation.lean ====
/-
  The equation: where no target is an infinity, the array the kernel returns and the array the reference returns are
  equal. The predicate `finite_target` is read at an element: its target is a real number.
-/
module

public import proofs.«01_k».proof.Defs
public import proofs.«01_k».proof.Proof.Array
public import proofs.«01_k».proof.Proof.Reference
public import proofs.«01_k».proof.Proof.Gen.Pre_finite_target

@[expose] public section

noncomputable section

namespace Cert.Equation

open Idealize.ShloMosaic Idealize.ShloMosaic.TcCoe

/-- An extended real whose absolute value is below `⊤` is a real number. -/
theorem real_of_abs_lt {t : EReal} (h : max t (-t) < ⊤) : ∃ b : ℝ, t = (b : EReal) := by
  induction t with
  | bot => simp at h
  | top => simp at h
  | coe b => exact ⟨b, rfl⟩

/-- A comparison "less than" that reads true holds. -/
theorem lt_of_compare {x y : EReal} (h : Ideal.cmp .olt x y = 1#1) : x < y := by
  by_contra hn
  have e : Ideal.cmp .olt x y = 0#1 := by simp [Ideal.cmp, hn]
  rw [e] at h
  exact absurd h (by decide)

/-- Under the precondition every target is a real number. -/
theorem target_real (m : (ℓ : Loc Cert.KernelIdeal.nD Cert.KernelIdeal.τ Cert.KernelIdeal.sig) → Buf (Elt Ideal) ℓ)
    (h : Cert.Pre_KernelIdeal_finite_target m) (c : Dev Cert.KernelIdeal.nD) (i : Cert.KernelIdeal.S8x262144x3.Idx) :
    ∃ b : ℝ, m ((c : Thread Cert.KernelIdeal.nD Cert.KernelIdeal.τ).loc Cert.KernelIdeal.main_arg1) i = (b : EReal) := by
  refine real_of_abs_lt ?_
  rw [← Focal.word_inf]
  exact lt_of_compare (congrFun (h c) i)

/-- The kernel's array is the reference's, from memories that agree on the three arrays read. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite_target m) (c : Dev Cert.KernelIdeal.nD)
    (h0 : m' ((c : Thread Cert.ReferenceIdeal.nD Cert.ReferenceIdeal.τ).loc Cert.ReferenceIdeal.main_arg0)
      = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1)
      = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2)
      = m ((c : Thread Cert.KernelIdeal.nD Cert.KernelIdeal.τ).loc Cert.KernelIdeal.main_arg2)) :
    Cert.ReferenceIdeal.Plain.out m' c = Cert.KernelIdeal.Whole.out m c := by
  funext i
  unfold Cert.ReferenceIdeal.Plain.out Cert.KernelIdeal.Whole.out
  rw [h0, h1, h2]
  obtain ⟨b, hb⟩ := target_real m h c i
  rw [hb]
  exact (Focal.kern_eq_plain _ _ b).symm

end Cert.Equation

end
-- ==== Proof.lean ====
/-
  The proof of `Cert.Claim`: the frames of the kernel, of its idealization and of the reference; that the
  idealization is the kernel's own text; and that over the extended reals the kernel computes the reference's focal
  loss wherever no target is an infinity.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_target
public import proofs.«01_k».proof.Proof.Equation
public import Idealize.ShloMosaic.Adequacy
public import Idealize.ShloMosaic.Init

@[expose] public section

noncomputable section

namespace Cert.Proof

open Idealize.ShloMosaic Idealize.SL.Sem

/-- The value claim: both programs run, and their results are the same array. -/
theorem algebraic : Cert.algebraic_KernelIdeal_ReferenceIdeal_pre_finite_target := by
  intro m ρ m' ρ' hpre hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Plain.run m' ρ')
  obtain ⟨h0, h1, h2, -⟩ := hagree c
  exact Cert.Equation.out_eq m m' hpre c h0 h1 h2

/-- Everything the certificate claims. -/
theorem claim : Cert.Claim :=
  ⟨Cert.Kernel.Gen.facts, Cert.KernelIdeal.Gen.facts, Cert.ReferenceIdeal.Gen.facts, Cert.Pre_finite_target.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Plain.frame m ρ,
    fun m ρ _ => Cert.ReferenceIdeal.Plain.frame m ρ,
    trivial,
    algebraic⟩

end Cert.Proof

end
